-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512 : Shape := ⟨2, ![8, 512]⟩
abbrev S8x128x512 : Shape := ⟨3, ![8, 128, 512]⟩
abbrev S8x128 : Shape := ⟨2, ![8, 128]⟩
abbrev S8192x1024 : Shape := ⟨2, ![8192, 1024]⟩
abbrev S1024 : Shape := ⟨1, ![1024]⟩
abbrev S1x1024 : Shape := ⟨2, ![1, 1024]⟩
abbrev S1 : Shape := ⟨1, ![1]⟩
abbrev S1024x512 : Shape := ⟨2, ![1024, 512]⟩
abbrev S1x1 : Shape := ⟨2, ![1, 1]⟩
abbrev S512x512 : Shape := ⟨2, ![512, 512]⟩
abbrev S1x512 : Shape := ⟨2, ![1, 512]⟩
abbrev S512 : Shape := ⟨1, ![512]⟩
abbrev S1x1x512 : Shape := ⟨3, ![1, 1, 512]⟩
abbrev S1x1x1 : Shape := ⟨3, ![1, 1, 1]⟩

abbrev nBuf : Space → Nat
  | .hbm => 12
  | .vmem => 13
  | .smem => 0
  | _ => 0

abbrev bufTy : (tb : Table) → Fin (tcTables nBuf tb) → BufTy
  | .hbm, ⟨0, _⟩ => ⟨S8x512, .f32⟩
  | .hbm, ⟨1, _⟩ => ⟨S8x128x512, .f32⟩
  | .hbm, ⟨2, _⟩ => ⟨S8x128, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S1, .f32⟩
  | .hbm, ⟨7, _⟩ => ⟨S1024x512, .f32⟩
  | .hbm, ⟨8, _⟩ => ⟨S1x1024, .f32⟩
  | .hbm, ⟨9, _⟩ => ⟨S1x1, .f32⟩
  | .hbm, ⟨10, _⟩ => ⟨S1x1, .f32⟩
  | .hbm, ⟨11, _⟩ => ⟨S1, .f32⟩
  | .local _ .vmem, ⟨0, _⟩ => ⟨S8x512, .f32⟩
  | .local _ .vmem, ⟨1, _⟩ => ⟨S512x512, .f32⟩
  | .local _ .vmem, ⟨2, _⟩ => ⟨S512x512, .f32⟩
  | .local _ .vmem, ⟨3, _⟩ => ⟨S8x128, .f32⟩
  | .local _ .vmem, ⟨4, _⟩ => ⟨S8x512, .f32⟩
  | .local _ .vmem, ⟨5, _⟩ => ⟨S8x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x1, .f32⟩
  | .local _ .vmem, ⟨11, _⟩ => ⟨S1x1, .f32⟩
  | .local _ .vmem, ⟨12, _⟩ => ⟨S1x512, .f32⟩
  | _, _ => ⟨S8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c0_i32_20 : BitVec 32 := 0#32
  let v53 : BitVec 1 := Scalar.cmpi .sgt arg0 c0_i32_20
  let v54 : BitVec 32 := Scalar.extui v53
  let c0_i32_21 : BitVec 32 := 0#32
  let v55 : BitVec 1 := Scalar.cmpi .ne v54 c0_i32_21
  v55

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8x512 : Shape := ⟨2, ![8, 512]⟩
abbrev S8x128x512 : Shape := ⟨3, ![8, 128, 512]⟩
abbrev S8x128 : Shape := ⟨2, ![8, 128]⟩
abbrev S8192x1024 : Shape := ⟨2, ![8192, 1024]⟩
abbrev S1024 : Shape := ⟨1, ![1024]⟩
abbrev S1x1024 : Shape := ⟨2, ![1, 1024]⟩
abbrev S1 : Shape := ⟨1, ![1]⟩
abbrev S_ : Shape := ⟨0, ![]⟩
abbrev S8192 : Shape := ⟨1, ![8192]⟩
abbrev S1024x1 : Shape := ⟨2, ![1024, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x512, .f32⟩
  | .hbm, ⟨1, _⟩ => ⟨S8x128x512, .f32⟩
  | .hbm, ⟨2, _⟩ => ⟨S8x128, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S1, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S8192, .i32⟩
  | .hbm, ⟨26, _⟩ => ⟨S_, .f32⟩
  | .hbm, ⟨27, _⟩ => ⟨S_, .i32⟩
  | .hbm, ⟨28, _⟩ => ⟨S_, .f32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x1024, .f32⟩
  | .hbm, ⟨44, _⟩ => ⟨S1024, .f32⟩
  | .hbm, ⟨45, _⟩ => ⟨S1024x1, .f32⟩
  | .hbm, ⟨46, _⟩ => ⟨S1, .f32⟩
  | .hbm, ⟨47, _⟩ => ⟨S1, .f32⟩
  | .hbm, ⟨48, _⟩ => ⟨S1, .f32⟩
  | .hbm, ⟨49, _⟩ => ⟨S1, .f32⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S_, .f32⟩
  | .hbm, ⟨54, _⟩ => ⟨S1, .f32⟩
  | .hbm, ⟨55, _⟩ => ⟨S1, .f32⟩
  | _, _ => ⟨S8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_call1_call0_cst : Ref sig .tc := ⟨.hbm, 22, rfl⟩
abbrev main_call1_call0_v0 : Ref sig .tc := ⟨.hbm, 23, rfl⟩
abbrev main_v12 : Ref sig .tc := ⟨.hbm, 24, rfl⟩
abbrev main_call2_v0 : Ref sig .tc := ⟨.hbm, 25, rfl⟩
abbrev main_call2_cst : Ref sig .tc := ⟨.hbm, 26, rfl⟩
abbrev main_call2_c : Ref sig .tc := ⟨.hbm, 27, rfl⟩
abbrev main_call2_v1_0 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_c_0 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_c_2 : Ref sig .tc := ⟨.hbm, 36, rfl⟩
abbrev main_v17 : Ref sig .tc := ⟨.hbm, 37, rfl⟩
abbrev main_c_3 : Ref sig .tc := ⟨.hbm, 38, rfl⟩
abbrev main_c_4 : Ref sig .tc := ⟨.hbm, 39, rfl⟩
abbrev main_v18 : Ref sig .tc := ⟨.hbm, 40, rfl⟩
abbrev main_c_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩

abbrev nD : Nat := 1
abbrev τ : Topo := Topo.v7x

variable {F : FTy → Type} [FloatOps F]
-- ==== Proof.RefRun.lean ====
/- What the reference program computes, as one term of its seven arguments, in the reference's own steps: the hidden
   vector, the weighted differences to every row of the kernel table, their running squared norms, the index of the
   smallest, the row at that index, and the logistic function of its product with the output weights. -/
module

public import proofs.«01_k».proof.Defs
public import proofs.«01_k».proof.Proof.Gen.ReferenceIdeal
public import Idealize.ShloMosaic.Lib.Claim
public import Idealize.ShloMosaic.Lib.StableHlo.RunClose

@[expose] public section

set_option maxRecDepth 16384

noncomputable section

namespace Cert.ReferenceIdeal.Val

open Idealize.ShloMosaic Idealize.SL.Sem Cert.ReferenceIdeal Cert.ReferenceIdeal.Gen

variable {F : FTy → Type} [FloatOps F]

/-- The hidden layer: per component the product with its weights, plus the bias, clipped below at zero. -/
def hidden (x : FVec F S8x512 .f32) (w : FVec F S8x128x512 .f32) (b : FVec F S8x128 .f32) : FVec F S8x128 .f32 :=
  maximumf (addf (Host.dotGeneral dot_S8x512_S8x128x512_S8x128_1_2_n_1_0_0 none x w) b)
    (broadcastInDim S8x128 ![] bcast_S_S8x128 (constant S_ .f32 0x00000000#32))

/-- The weighted differences of the flattened hidden layer to every row of the kernel table. -/
def diffs (h : FVec F S8x128 .f32) (k : FVec F S8192x1024 .f32) (wp : FVec F S1024 .f32) : FVec F S8192x1024 .f32 :=
  mulf
    (subf
      (broadcastInDim S8192x1024 ![0, 1] bcast_S1x1024_S8192x1024_0_1
        (broadcastInDim S1x1024 ![1] bcast_S1024_S1x1024_1 (shapeCast S1024 h shapeCasts_S8x128_S1024)))
      k)
    (broadcastInDim S8192x1024 ![0, 1] bcast_S1x1024_S8192x1024_0_1
      (broadcastInDim S1x1024 ![1] bcast_S1024_S1x1024_1 wp))

/-- The squared norm of every row. -/
def rowSq (d : FVec F S8192x1024 .f32) : FVec F S8192 .f32 :=
  Host.reduceAdd (mulf d d) (constant S_ .f32 0x00000000#32) reducesTo_S8192x1024_S8192_d1 h_S_

/-- The running sum of a vector. -/
def running (q : FVec F S8192 .f32) : FVec F S8192 .f32 :=
  Host.reduceWindowAdd ![8192] ![1] ![8191] ![0] q
    (broadcastInDim S_ ![] bcast_S_S_ (constant S_ .f32 0x00000000#32)) reduceWindows_S8192_S8192_w8192s1p8191_0 h_S_

/-- The index of the smallest entry, the first where several are equal. -/
def argmin (q : FVec F S8192 .f32) : IVec S_ 32 := fun j =>
  (Host.argReduce reducer_argmin_f32_i32 q (iotaInDim S8192 32 0) (constant S_ .f32 0x7F800000#32)
    (constantI S_ 32 0#32) reducesTo_S8192_S_d0 h_S_ j).2

/-- The index as the row's start, counted from the end where it is negative. -/
def start (i : IVec S_ 32) : IVec S_ 32 :=
  select (cmpi .slt i (constantI S_ 32 0#32)) (addi i (constantI S_ 32 8192#32)) i

/-- The column's start, which is zero. -/
def start0 : IVec S_ 32 :=
  select (cmpi .slt (constantI S_ 32 0#32) (constantI S_ 32 0#32)) (addi (constantI S_ 32 0#32) (constantI S_ 32 1024#32))
    (constantI S_ 32 0#32)

/-- The row of the differences at an index. -/
def rowAt (d : FVec F S8192x1024 .f32) (i : IVec S_ 32) : FVec F S1024 .f32 :=
  shapeCast S1024
    (Host.dynamicSlice S1x1024 d
      (fun k => ((![start i, start0] : Fin 2 → IVec S_ 32) k (Shape.Idx.first h_S_)).toInt) sliceFits_S8192x1024_S1x1024)
    shapeCasts_S1x1024_S1024

/-- The logistic function of the selected row's product with the output weights, plus the output bias. -/
def out (s : FVec F S1024 .f32) (ow : FVec F S1x1024 .f32) (ob : FVec F S1 .f32) : FVec F S1 .f32 :=
  Host.divf (broadcastInDim S1 ![] bcast_S_S1 (constant S_ .f32 0x3F800000#32))
    (addf (broadcastInDim S1 ![] bcast_S_S1 (constant S_ .f32 0x3F800000#32))
      (Host.exp (Host.negf
        (addf (Host.dotGeneral dot_S1024_S1024x1_S1_0_0_n_1_n_n none s
          (transpose S1024x1 [1, 0] ow transposes_S1x1024_S1024x1_1_0)) ob))))

/-- The differences, from the arguments. -/
def feat (x : FVec F S8x512 .f32) (w : FVec F S8x128x512 .f32) (b : FVec F S8x128 .f32) (k : FVec F S8192x1024 .f32)
    (wp : FVec F S1024 .f32) : FVec F S8192x1024 .f32 :=
  diffs (hidden x w b) k wp

/-- The reference's result, from its arguments. -/
def G (x : FVec F S8x512 .f32) (w : FVec F S8x128x512 .f32) (b : FVec F S8x128 .f32) (k : FVec F S8192x1024 .f32)
    (wp : FVec F S1024 .f32) (ow : FVec F S1x1024 .f32) (ob : FVec F S1 .f32) : FVec F S1 .f32 :=
  out (rowAt (feat x w b k wp) (argmin (running (rowSq (feat x w b k wp))))) ow ob

/-- Every run of the reference ends with `G` of the arguments in its result. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
        = G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) := by
  refine θ_run_mono (StableHlo.run_hlo _ _ (by hlo_seq) (by decide) (by decide) (by simp)
      (by intro _ h; (repeat (cases h with | head => rfl | tail _ h => ?_)); exact nomatch h) _ _) ?_
  intro r hr c
  rw [hr c]
  after_results_simp_entrywise
  rfl

end Cert.ReferenceIdeal.Val

end
-- ==== Proof.FirstIndex.lean ====
/- The smallest entry of a running sum of squared norms is its first one: no later entry is below the first, and of
   equal entries the search returns the earliest. So the reference's search over the 8192 rows returns row 0. -/
module

public import proofs.«01_k».proof.Proof.RefRun
public import Idealize.ShloMosaic.PureOps.Ideal.Laws
public import Idealize.ShloMosaic.Lib.Pointwise.Index

@[expose] public section

set_option maxRecDepth 16384

noncomputable section

namespace Cert.ReferenceIdeal.Val

open Idealize.ShloMosaic Cert.ReferenceIdeal Cert.ReferenceIdeal.Gen

/-! ## Squares and their sums are not negative -/

/-- The square of an extended real is not negative. -/
theorem sq_nonneg (a : EReal) : 0 ≤ a * a := by
  rcases le_total 0 a with h | h
  · exact mul_nonneg h h
  · have h' : 0 ≤ -a := by simpa using EReal.neg_le_neg_iff.mpr h
    simpa using mul_nonneg h' h'

/-- A squared row norm is not negative. -/
theorem rowSq_nonneg (d : FVec Ideal S8192x1024 .f32) (j : S8192.Idx) : (0 : EReal) ≤ rowSq d j := by
  show (0 : EReal) ≤ Ideal.hostReduceAdd reducesTo_S8192x1024_S8192_d1 (mulf d d) (Ideal.ofBits .f32 0x00000000#32) j
  unfold Ideal.hostReduceAdd
  rw [Ideal.ofBits_zero_f32, zero_add]
  exact Finset.sum_nonneg fun i _ => sq_nonneg (d i)

/-! ## The running sum as a sum -/

/-- A left fold that adds a term per element is the starting value plus the sum of the terms. -/
theorem foldl_add_eq_sum {N : Nat} (f : Fin N → EReal) (v : EReal) :
    (List.finRange N).foldl (fun r n => r + f n) v = v + ∑ n, f n := by
  have h : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [h, List.sum_ofFn.symm.trans (by rw [List.ofFn_eq_map])]

/-- What the place `n` of a window as long as the vector contributes to entry `j` of the running sum: the vector's entry
    at the window's place, zero where the place lies before the vector. -/
def term {N M : Nat} (hN : M + 1 = N) (q : (⟨1, ![N]⟩ : Shape).Idx → EReal) (j n : (⟨1, ![N]⟩ : Shape).Idx) : EReal :=
  if h : M ≤ (j 0).val + (n 0).val then
    q (ix1 ⟨(j 0).val + (n 0).val - M, by
      have hj : (j 0).val < N := (j 0).isLt
      have hn : (n 0).val < N := (n 0).isLt
      omega⟩) else 0

/-- A place that meets the vector contributes the entry it meets. -/
theorem term_at {N M : Nat} (hN : M + 1 = N) (q : (⟨1, ![N]⟩ : Shape).Idx → EReal) (j n : (⟨1, ![N]⟩ : Shape).Idx) (k : Fin N)
    (h : (j 0).val + (n 0).val = M + k.val) : term hN q j n = q (ix1 k) := by
  unfold term
  rw [dif_pos (by omega)]
  refine congrArg q (congrArg ix1 (Fin.ext ?_))
  show (j 0).val + (n 0).val - M = k.val
  omega

/-- An entry of the running sum is the sum of what the window's places contribute. -/
theorem window_eq {N M : Nat} (hN : M + 1 = N) (q : (⟨1, ![N]⟩ : Shape).Idx → EReal) (j : (⟨1, ![N]⟩ : Shape).Idx)
    (h : (⟨1, ![N]⟩ : Shape).ReduceWindows ![N] ![1] ![M] ![0] ⟨1, ![N]⟩) (v : EReal) (hv : v = 0) :
    Ideal.hostReduceWindowAdd ![N] ![1] ![M] ![0] h q v j = ∑ n, term hN q j n := by
  have hj : (j 0).val < N := (j 0).isLt
  refine Eq.trans ?_ (((foldl_add_eq_sum (fun n => term hN q j ((⟨1, ![N]⟩ : Shape).rowMajor.symm n)) v).trans ?_).trans
    (Equiv.sum_comp (⟨1, ![N]⟩ : Shape).rowMajor.symm (term hN q j)))
  · refine congrArg (fun f => (List.finRange (⟨1, ![N]⟩ : Shape).numel).foldl f v) ?_
    funext r n
    refine congrArg (fun x => r + x) ?_
    have hn : ((⟨1, ![N]⟩ : Shape).rowMajor.symm n 0).val < N := ((⟨1, ![N]⟩ : Shape).rowMajor.symm n 0).isLt
    dsimp only [term]
    split
    · next hin =>
      have h0 := hin 0
      change M ≤ (j 0).val * 1 + ((⟨1, ![N]⟩ : Shape).rowMajor.symm n 0).val
        ∧ (j 0).val * 1 + ((⟨1, ![N]⟩ : Shape).rowMajor.symm n 0).val - M < N at h0
      rw [Nat.mul_one] at h0
      rw [dif_pos h0.1]
      refine congrArg q (funext fun a => Fin.ext ?_)
      match a with
      | ⟨0, _⟩ =>
        show (j 0).val * 1 + ((⟨1, ![N]⟩ : Shape).rowMajor.symm n 0).val - M
          = (j 0).val + ((⟨1, ![N]⟩ : Shape).rowMajor.symm n 0).val - M
        rw [Nat.mul_one]
    · next hin =>
      rw [dif_neg fun h0 => hin fun a => by
        match a with
        | ⟨0, _⟩ =>
          show M ≤ (j 0).val * 1 + ((⟨1, ![N]⟩ : Shape).rowMajor.symm n 0).val
            ∧ (j 0).val * 1 + ((⟨1, ![N]⟩ : Shape).rowMajor.symm n 0).val - M < N
          rw [Nat.mul_one]
          omega]
      exact hv
  · rw [hv, zero_add]

/-- No entry of the running sum of a vector that is nowhere negative is below the running sum's first entry. -/
theorem window_first_le {N M : Nat} (hN : M + 1 = N) (q : (⟨1, ![N]⟩ : Shape).Idx → EReal) (hq : ∀ i, 0 ≤ q i)
    (z j : (⟨1, ![N]⟩ : Shape).Idx) (hz : (z 0).val = 0)
    (h : (⟨1, ![N]⟩ : Shape).ReduceWindows ![N] ![1] ![M] ![0] ⟨1, ![N]⟩) (v : EReal) (hv : v = 0) :
    Ideal.hostReduceWindowAdd ![N] ![1] ![M] ![0] h q v z ≤ Ideal.hostReduceWindowAdd ![N] ![1] ![M] ![0] h q v j := by
  have hj : (j 0).val < N := (j 0).isLt
  have e0 : Ideal.hostReduceWindowAdd ![N] ![1] ![M] ![0] h q v z = q (ix1 ⟨0, by omega⟩) := by
    rw [window_eq hN q z h v hv, Finset.sum_eq_single (ix1 ⟨M, by omega⟩)]
    · exact term_at hN q _ _ ⟨0, by omega⟩ (by rw [hz]; show 0 + M = M + 0; omega)
    · intro n _ hn
      have hlt : (n 0).val < N := (n 0).isLt
      unfold term
      refine dif_neg fun h => hn ?_
      rw [eq_ix1 n]
      refine congrArg ix1 (Fin.ext ?_)
      show (n 0).val = M
      omega
    · intro h; exact absurd (Finset.mem_univ _) h
  rw [e0, window_eq hN q j h v hv]
  refine le_trans (le_of_eq (term_at hN q j (ix1 ⟨M - (j 0).val, by omega⟩) ⟨0, by omega⟩ ?_).symm)
    (Finset.single_le_sum (f := term hN q j) (fun n _ => ?_) (Finset.mem_univ _))
  · show (j 0).val + (M - (j 0).val) = M + 0
    omega
  · unfold term; split
    · exact hq _
    · exact le_refl _

/-- The reference's running sum of a vector that is nowhere negative has no entry below its first one. -/
theorem running_first_le (q : FVec Ideal S8192 .f32) (hq : ∀ i, (0 : EReal) ≤ q i) (j : S8192.Idx) :
    (running q (ix1 (0 : Fin 8192)) : EReal) ≤ running q j := by
  have hM : 8191 + 1 = 8192 := by norm_num
  have hz : ((ix1 (0 : Fin 8192) : S8192.Idx) 0).val = 0 := by rw [ix1_0]; simp
  have h := window_first_le hM q hq (ix1 0) j hz reduceWindows_S8192_S8192_w8192s1p8191_0 _ Ideal.ofBits_zero_f32
  unfold running Host.reduceWindowAdd
  rw [Ideal.hostReduceWindowAdd_def]
  exact h

/-! ## The search -/

/-- A left fold over `0, 1, …` whose first step reaches a state that every later step keeps ends in that state. -/
theorem foldl_first {β : Type} (N : Nat) (hN : 0 < N) (f : β → Fin N → β) (z₀ z : β) (h0 : f z₀ ⟨0, hN⟩ = z)
    (hs : ∀ n : Fin N, 0 < n.val → f z n = z) : (List.finRange N).foldl f z₀ = z := by
  cases N with
  | zero => omega
  | succ k =>
    rw [List.finRange_succ, List.foldl_cons, List.foldl_map]
    rw [show f z₀ 0 = z from h0]
    have h : ∀ l : List (Fin k), l.foldl (fun x y => f x y.succ) z = z := by
      intro l
      induction l with
      | nil => rfl
      | cons a l ih => rw [List.foldl_cons, hs a.succ (Nat.succ_pos _), ih]
    exact h _

/-- The search's step keeps the pair of the smallest value and index 0 against any later pair. -/
theorem step_keep (v b : EReal) (n : BitVec 32) (hv : v ≤ b) (hn : IntOp.cmpi .slt (0#32) n = 1#1) :
    reducer_argmin_f32_i32 (F := Ideal) (v, 0#32) (b, n) = (v, 0#32) := by
  unfold reducer_argmin_f32_i32
  dsimp only
  rw [hn]
  simp only [Ideal.cmpf_def, Ideal.cmp]
  rcases lt_or_eq_of_le hv with h | h
  · simp [h, h.ne, IntOp.ori, IntOp.andi, Scalar.select, BitVec.ofBool]
  · simp [h, IntOp.ori, IntOp.andi, Scalar.select, BitVec.ofBool]

/-- The search's first step takes the first pair. -/
theorem step_first (b : EReal) : reducer_argmin_f32_i32 (F := Ideal) (⊤, 0#32) (b, 0#32) = (b, 0#32) := by
  unfold reducer_argmin_f32_i32
  dsimp only
  simp only [Ideal.cmpf_def, Ideal.cmp]
  simp [IntOp.ori, IntOp.andi, IntOp.cmpi, Scalar.select, BitVec.ofBool]

/-- Where no entry is below the first, the search returns index 0. -/
theorem argmin_eq_zero (q : FVec Ideal S8192 .f32) (hq : ∀ i, (q (ix1 (0 : Fin 8192)) : EReal) ≤ q i) : argmin q = fun _ => 0#32 := by
  funext j
  unfold argmin
  rw [Ideal.argReduce_eq_reduce2, Host.reduce2_eq_foldl_fiber, Host.argReduceFiber,
    List.filter_eq_self.mpr fun n _ => by
      rw [decide_eq_true_eq]; funext a; exact a.elim0, List.foldl_map]
  have hnum : S8192.numel = 8192 := rfl
  have hc : ∀ n : Fin S8192.numel, (S8192.rowMajor.symm n 0).val = n.val := fun n => by
    have h := congrArg Fin.val (S8192.rowMajor.apply_symm_apply n)
    rw [Shape.rowMajor_val_one] at h
    exact h
  rw [foldl_first S8192.numel (by rw [hnum]; decide) _ _ (q (ix1 (0 : Fin 8192)), 0#32)]
  · have e : S8192.rowMajor.symm ⟨0, by rw [hnum]; decide⟩ = ix1 (0 : Fin 8192) := funext fun a => Fin.ext (by
      match a with | ⟨0, _⟩ => exact hc _)
    rw [e]
    show reducer_argmin_f32_i32 (F := Ideal) (Ideal.ofBits .f32 0x7F800000#32, 0#32) (q (ix1 (0 : Fin 8192)), 0#32) = _
    rw [show Ideal.ofBits .f32 0x7F800000#32 = ⊤ from by simp [Ideal.ofBits, Ideal.ieee]]
    exact step_first _
  · intro n hn
    refine step_keep _ _ _ (hq _) ?_
    show IntOp.cmpi .slt 0#32 (BitVec.ofNat 32 (S8192.rowMajor.symm n 0).val) = 1#1
    rw [hc]
    have hlt : n.val < 8192 := lt_of_lt_of_eq n.isLt hnum
    have : BitVec.slt 0#32 (BitVec.ofNat 32 n.val) = true := by
      rw [BitVec.slt_iff_toInt_lt, BitVec.toInt_eq_toNat_of_lt (x := BitVec.ofNat 32 n.val) (by rw [BitVec.toNat_ofNat]; omega),
        BitVec.toNat_ofNat, Nat.mod_eq_of_lt (by omega)]
      show (0 : Int) < n.val
      omega
    simp [IntOp.cmpi, this]

/-- So the reference's search over the running squared norms of any table of differences returns row 0. -/
theorem argmin_running (d : FVec Ideal S8192x1024 .f32) : argmin (running (rowSq d)) = fun _ => 0#32 :=
  argmin_eq_zero _ fun i => running_first_le _ (rowSq_nonneg d) i

end Cert.ReferenceIdeal.Val

end
-- ==== Proof.Score.lean ====
/- The number both programs compute, as a function of the seven arguments' entries. -/
module

public import Idealize.ShloMosaic.PureOps.Ideal.Laws
public import Idealize.ShloMosaic.Lib.Pointwise.Index

@[expose] public section

noncomputable section

namespace Cert.Score

open Idealize.ShloMosaic

/-- The hidden layer at component `r` and unit `h`: the product of the component's input with the unit's weights, plus the
    bias, clipped below at zero. -/
def hid (x : (⟨2, ![8, 512]⟩ : Shape).Idx → EReal) (w : (⟨3, ![8, 128, 512]⟩ : Shape).Idx → EReal)
    (b : (⟨2, ![8, 128]⟩ : Shape).Idx → EReal) (r : Fin 8) (h : Fin 128) : EReal :=
  max (∑ t : Fin 512, x (ix2 r t) * w (ix3 r h t) + b (ix2 r h)) 0

/-- What place `c` of the flattened hidden layer adds to the output product: its weighted difference to row 0 of the
    kernel table, times its output weight. -/
def contrib (x : (⟨2, ![8, 512]⟩ : Shape).Idx → EReal) (w : (⟨3, ![8, 128, 512]⟩ : Shape).Idx → EReal)
    (b : (⟨2, ![8, 128]⟩ : Shape).Idx → EReal) (k : (⟨2, ![8192, 1024]⟩ : Shape).Idx → EReal)
    (wp : (⟨1, ![1024]⟩ : Shape).Idx → EReal) (ow : (⟨2, ![1, 1024]⟩ : Shape).Idx → EReal) (c : Fin 1024) : EReal :=
  (hid x w b ⟨c.val / 128, by omega⟩ ⟨c.val % 128, by omega⟩ - k (ix2 (0 : Fin 8192) c)) * wp (ix1 c) * ow (ix2 (0 : Fin 1) c)

/-- One over one plus the exponential of the negated number. -/
def logistic (s : EReal) : EReal := Ideal.div 1 (1 + Ideal.exp (-s))

/-- The score: the logistic function of the sum over all 1024 places, plus the output bias. -/
def score (x : (⟨2, ![8, 512]⟩ : Shape).Idx → EReal) (w : (⟨3, ![8, 128, 512]⟩ : Shape).Idx → EReal)
    (b : (⟨2, ![8, 128]⟩ : Shape).Idx → EReal) (k : (⟨2, ![8192, 1024]⟩ : Shape).Idx → EReal)
    (wp : (⟨1, ![1024]⟩ : Shape).Idx → EReal) (ow : (⟨2, ![1, 1024]⟩ : Shape).Idx → EReal)
    (ob : (⟨1, ![1]⟩ : Shape).Idx → EReal) : EReal :=
  logistic (∑ c : Fin 1024, contrib x w b k wp ow c + ob (ix1 (0 : Fin 1)))

/-- The sum over the 1024 places, taken as two halves of 512 added place by place. -/
theorem sum_halves (f : Fin 1024 → EReal) :
    ∑ j : Fin 512, (f ⟨j.val, by omega⟩ + f ⟨512 + j.val, by omega⟩) = ∑ c : Fin 1024, f c := by
  rw [Finset.sum_add_distrib]
  exact (Fin.sum_univ_add (a := 512) (b := 512) f).symm

end Cert.Score

end
-- ==== Proof.RefValue.lean ====
/- The reference's result is the score: the index its search returns is 0, so the row it selects is row 0 of the
   differences, and the rest is read entry by entry. -/
module

public import proofs.«01_k».proof.Proof.FirstIndex
public import proofs.«01_k».proof.Proof.Score
public import Idealize.ShloMosaic.Lib.Pointwise

@[expose] public section

set_option maxRecDepth 16384

noncomputable section

namespace Cert.ReferenceIdeal.Val

open Idealize.ShloMosaic Cert.ReferenceIdeal Cert.ReferenceIdeal.Gen

/-- The hidden layer, entry by entry. -/
theorem hidden_apply (x : FVec Ideal S8x512 .f32) (w : FVec Ideal S8x128x512 .f32) (b : FVec Ideal S8x128 .f32)
    (r : Fin 8) (h : Fin 128) : hidden x w b (ix2 r h) = Score.hid x w b r h := by
  unfold hidden Score.hid
  pointwise

/-- The row selected at index 0 is row 0. -/
theorem rowAt_zero (d : FVec Ideal S8192x1024 .f32) (c : Fin 1024) :
    rowAt d (fun _ => 0#32) (ix1 c) = d (ix2 (0 : Fin 8192) c) := by
  unfold rowAt
  have hs : (fun k => ((![start (fun _ => 0#32), start0] : Fin 2 → IVec S_ 32) k (Shape.Idx.first h_S_)).toInt)
      = fun _ => (0 : Int) := funext fun k => by
    match k with
    | ⟨0, _⟩ => rfl
    | ⟨1, _⟩ => rfl
  rw [hs]
  pointwise [Host.clampedStart]
  refine congrArg d (congrArg (ix2 (0 : Fin 8192)) (Fin.ext ?_))
  simp

/-- Row 0 of the differences, entry by entry. -/
theorem feat_zero (x : FVec Ideal S8x512 .f32) (w : FVec Ideal S8x128x512 .f32) (b : FVec Ideal S8x128 .f32)
    (k : FVec Ideal S8192x1024 .f32) (wp : FVec Ideal S1024 .f32) (c : Fin 1024) :
    feat x w b k wp (ix2 (0 : Fin 8192) c)
      = (Score.hid x w b ⟨c.val / 128, by omega⟩ ⟨c.val % 128, by omega⟩ - k (ix2 (0 : Fin 8192) c)) * wp (ix1 c) := by
  rw [← hidden_apply]
  unfold feat diffs
  pointwise

/-- The last step, as the logistic function of a sum. -/
theorem out_apply (s : FVec Ideal S1024 .f32) (ow : FVec Ideal S1x1024 .f32) (ob : FVec Ideal S1 .f32) :
    out s ow ob (ix1 (0 : Fin 1))
      = Score.logistic (∑ c : Fin 1024, s (ix1 c) * ow (ix2 (0 : Fin 1) c) + ob (ix1 (0 : Fin 1))) := by
  unfold out Score.logistic
  pointwise

/-- The reference's result is the score of its arguments. -/
theorem G_eq (x : FVec Ideal S8x512 .f32) (w : FVec Ideal S8x128x512 .f32) (b : FVec Ideal S8x128 .f32)
    (k : FVec Ideal S8192x1024 .f32) (wp : FVec Ideal S1024 .f32) (ow : FVec Ideal S1x1024 .f32) (ob : FVec Ideal S1 .f32) :
    G x w b k wp ow ob = fun _ => Score.score x w b k wp ow ob := by
  funext j
  have hj : j = ix1 (0 : Fin 1) := by
    rw [eq_ix1 j]
    exact congrArg ix1 (Fin.ext (by have := (j 0).isLt; show (j 0).val = 0; change (j 0).val < 1 at this; omega))
  rw [hj]
  unfold G
  rw [argmin_running, out_apply]
  unfold Score.score
  refine congrArg Score.logistic (congrArg (fun s => s + ob (ix1 (0 : Fin 1))) (Finset.sum_congr rfl fun c _ => ?_))
  rw [rowAt_zero, feat_zero]
  rfl

end Cert.ReferenceIdeal.Val

end
-- ==== Proof.KernelBlock.lean ====
/- What one grid point of the kernel leaves behind, as values of its input blocks: the first point the partial products in
   the scratch row, the second the score in the output block. -/
module

public import proofs.«01_k».proof.Defs
public import proofs.«01_k».proof.Proof.Gen.KernelIdeal.Frame
public import proofs.«01_k».proof.Proof.Score
public import Idealize.ShloMosaic.Lib.Pipeline.Value
public import Idealize.ShloMosaic.Lib.Pointwise
public import Idealize.ShloMosaic.Lib.Tactic

@[expose] public section

set_option maxRecDepth 16384

noncomputable section

namespace Cert.KernelIdeal.Block

open Idealize.ShloMosaic Idealize.ShloMosaic.TcCoe Cert.KernelIdeal Cert.KernelIdeal.Gen

/-- The zero offsets. -/
theorem hz : (![0, 0] : Fin 2 → Nat) = fun _ => 0 := funext fun a => by fin_cases a <;> rfl

variable {F : FTy → Type} [FloatOps F]

/-- Row 0 of the block of the kernel table. -/
abbrev row0 (x : Vec F S8x512 .f32) : Vec F S1x512 .f32 :=
  View.ld x (Rect.unit (s := S8x512) ![0, 0] S1x512.size inb_S8x512_S1x512_0_0)

/-- The first point leaves in the scratch row its blocks' partial products. -/
theorem sout_A (c : Dev nD) (i : grid0.Coords) (a1 : Memref sig .tc .vmem S8x512 .f32) (h1 : a1.IsWhole)
    (a2 : Memref sig .tc .vmem S512x512 .f32) (h2 : a2.IsWhole) (a3 : Memref sig .tc .vmem S8x128 .f32) (h3 : a3.IsWhole)
    (a4 : Memref sig .tc .vmem S8x512 .f32) (h4 : a4.IsWhole) (a5 : Memref sig .tc .vmem S1x512 .f32) (h5 : a5.IsWhole)
    (a6 : Memref sig .tc .vmem S1x512 .f32) (h6 : a6.IsWhole) (a7 : Memref sig .tc .vmem S1x1 .f32) (h7 : a7.IsWhole)
    (a8 : Memref sig .tc .vmem S1x1 .f32) (h8 : a8.IsWhole) (a9 : Memref sig .tc .vmem S1x512 .f32) (h9 : a9.IsWhole)
    (hc0 : cond0_0 i) (hc1 : ¬cond0_1 i) (x0 : Vec F S8x512 .f32) (x1 : Vec F S512x512 .f32) (x2 : Vec F S8x128 .f32)
    (x3 : Vec F S8x512 .f32) (x4 : Vec F S1x512 .f32) (x5 : Vec F S1x512 .f32) (x6 : Vec F S1x1 .f32) :
    sout0_A_0 c i a1 h1 a2 h2 a3 h3 a4 h4 a5 h5 a6 h6 a7 h7 a8 h8 a9 h9 hc0 hc1 x0 x1 x2 x3 x4 x5 x6
      = k0_pay1 (k0_pay4 i x0 x1 x2) (Scalar.ofBits .f32 0x00000000#32) (row0 x3) x4 x5 := by
  unfold sout0_A_0
  rw [View.read_writes_eq_canon _ _ _ (scover0_A_0 c i a1 h1 a2 h2 a3 h3 a4 h4 a5 h5 a6 h6 a7 h7 a8 h8 a9 h9 hc0 hc1 x0 x1 x2 x3 x4 x5 x6)]
  unfold kernelRun0_A
  dsimp only
  sl_unfold_words
  rw [View.canon_unit_zero hz]
  unfold k0_pay2
  simp only [View.readAt_eq_ld, h1.read_unread, h2.read_unread, h3.read_unread, h4.read_unread, h5.read_unread,
    h6.read_unread, View.ld_unit_zero (S := S8x512) hz, View.ld_unit_zero (S := S512x512) hz,
    View.ld_unit_zero (S := S8x128) hz, View.ld_unit_zero (S := S1x512) hz, shapeCast_self]

/-- The second point leaves in the output block the score of the scratch row and its blocks. -/
theorem out_B (c : Dev nD) (i : grid0.Coords) (a1 : Memref sig .tc .vmem S8x512 .f32) (h1 : a1.IsWhole)
    (a2 : Memref sig .tc .vmem S512x512 .f32) (h2 : a2.IsWhole) (a3 : Memref sig .tc .vmem S8x128 .f32) (h3 : a3.IsWhole)
    (a4 : Memref sig .tc .vmem S8x512 .f32) (h4 : a4.IsWhole) (a5 : Memref sig .tc .vmem S1x512 .f32) (h5 : a5.IsWhole)
    (a6 : Memref sig .tc .vmem S1x512 .f32) (h6 : a6.IsWhole) (a7 : Memref sig .tc .vmem S1x1 .f32) (h7 : a7.IsWhole)
    (a8 : Memref sig .tc .vmem S1x1 .f32) (h8 : a8.IsWhole) (a9 : Memref sig .tc .vmem S1x512 .f32) (h9 : a9.IsWhole)
    (hc0 : ¬cond0_0 i) (hc1 : cond0_1 i) (x0 : Vec F S8x512 .f32) (x1 : Vec F S512x512 .f32) (x2 : Vec F S8x128 .f32)
    (x3 : Vec F S8x512 .f32) (x4 : Vec F S1x512 .f32) (x5 : Vec F S1x512 .f32) (x6 : Vec F S1x1 .f32) (xs : Vec F S1x512 .f32) :
    out0_B_7 c i a1 h1 a2 h2 a3 h3 a4 h4 a5 h5 a6 h6 a7 h7 a8 h8 a9 h9 hc0 hc1 x0 x1 x2 x3 x4 x5 x6 xs
      = k0_pay3 (k0_pay4 i x0 x1 x2) (Scalar.ofBits .f32 0x00000000#32) (row0 x3) x4 x5 xs x6 := by
  unfold out0_B_7
  rw [View.read_writes_eq_canon _ _ _ (cover0_B_7 c i a1 h1 a2 h2 a3 h3 a4 h4 a5 h5 a6 h6 a7 h7 a8 h8 a9 h9 hc0 hc1 x0 x1 x2 x3 x4 x5 x6 xs)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h9.read_unread, View.ld_unit_zero (S := S8x512) hz,
    View.ld_unit_zero (S := S512x512) hz, View.ld_unit_zero (S := S8x128) hz, View.ld_unit_zero (S := S1x512) hz,
    View.ld_unit_zero (S := S1x1) hz]

/-- The quotient by 128, rounded down, as the kernel writes it on words. -/
def quot (n : BitVec 32) : BitVec 32 :=
  Scalar.select
    (IntOp.andi
      (IntOp.cmpi .ne
        (IntOp.subi (BitVec.setWidth 32 (IntOp.cmpi .sgt n 0#32)) (BitVec.setWidth 32 (IntOp.cmpi .slt n 0#32)))
        (Scalar.subi (Scalar.extui (Scalar.cmpi .sgt 128#32 0#32)) (Scalar.extui (Scalar.cmpi .slt 128#32 0#32))))
      (IntOp.cmpi .ne (IntOp.remsi .vector n 128#32) 0#32))
    (IntOp.subi (IntOp.divsi .vector n 128#32) 1#32)
    (IntOp.divsi .vector n 128#32)

/-- At a column it is the column's block of 128. -/
theorem quot_eq : ∀ j : Fin 512, quot (BitVec.ofNat 32 j.val) = BitVec.ofNat 32 (j.val / 128) := by
  decide +kernel

/-- The mask at component `k`, column `j`: set exactly at the component whose unit the column holds. -/
theorem mask_eq : ∀ (k : Fin 8) (q : Fin 4) (i : Fin 2),
    IntOp.cmpi .eq (BitVec.ofNat 32 k.val)
      (IntOp.addi (BitVec.ofNat 32 q.val) (Scalar.muli (BitVec.ofNat 32 i.val) 4#32))
      = if k.val = 4 * i.val + q.val then 1#1 else 0#1 := by
  decide +kernel

/-- The four copies of the bias side by side, at a column: the bias of the column's unit. -/
theorem bias_eq (b : Vec Ideal S8x128 .f32) (r : Fin 8) (j : Fin 512) :
    (if h : j.val < 128 then b (ix2 r ⟨j.val, h⟩)
      else if h : j.val - 128 < 128 then b (ix2 r ⟨j.val - 128, h⟩)
      else if h : j.val - 128 - 128 < 128 then b (ix2 r ⟨j.val - 128 - 128, h⟩)
      else b (ix2 r ⟨j.val - 128 - 128 - 128, by omega⟩)) = b (ix2 r ⟨j.val % 128, by omega⟩) := by
  split
  · exact congrArg b (congrArg (ix2 r) (Fin.ext (by dsimp only; omega)))
  split
  · exact congrArg b (congrArg (ix2 r) (Fin.ext (by dsimp only; omega)))
  split
  · exact congrArg b (congrArg (ix2 r) (Fin.ext (by dsimp only; omega)))
  · exact congrArg b (congrArg (ix2 r) (Fin.ext (by dsimp only; omega)))

/-- The masked sum over the eight components keeps one of them: at column `j` of point `i` the product of component
    `4 i + j / 128` with the weights in row `j` of the block, plus the bias of unit `j % 128`. -/
theorem pay4_apply (i : grid0.Coords) (x : Vec Ideal S8x512 .f32) (w : Vec Ideal S512x512 .f32) (b : Vec Ideal S8x128 .f32)
    (j : Fin 512) (r : Fin 8) (hr : r.val = 4 * (i 0).val + j.val / 128) :
    k0_pay4 i x w b (ix2 (0 : Fin 1) j)
      = ∑ t : Fin 512, x (ix2 r t) * w (ix2 j t) + b (ix2 r ⟨j.val % 128, by omega⟩) := by
  unfold k0_pay4
  pointwise
  refine (Finset.sum_congr rfl fun k _ => ?_).trans
    (Finset.sum_ite_eq' Finset.univ r fun k => ∑ t : Fin 512, x (ix2 k t) * w (ix2 j t) + b (ix2 k ⟨j.val % 128, by omega⟩)) |>.trans
    (if_pos (Finset.mem_univ r))
  have hq := quot_eq j
  unfold quot at hq
  have hi : (i 0).val < 2 := (i 0).isLt
  have hm := mask_eq k ⟨j.val / 128, by omega⟩ ⟨(i 0).val, hi⟩
  dsimp only at hm
  rw [hq, hm, bias_eq]
  by_cases h : k = r
  · rw [if_pos h, if_pos (by rw [h]; exact hr)]; rfl
  · rw [if_neg h, if_neg (fun h' => h (Fin.ext (h'.trans hr.symm)))]; rfl

/-- A partial product, column by column. -/
theorem pay1_apply (s : FVec Ideal S1x512 .f32) (z : Ideal .f32) (k w o : Vec Ideal S1x512 .f32) (j : Fin 512) :
    k0_pay1 s z k w o (ix2 (0 : Fin 1) j)
      = ((max (s (ix2 (0 : Fin 1) j)) z - k (ix2 (0 : Fin 1) j)) * w (ix2 (0 : Fin 1) j) * o (ix2 (0 : Fin 1) j) : EReal) := by
  unfold k0_pay1
  pointwise

/-- The score of the scratch row `a`, the partial products and the output bias `b`. -/
theorem pay3_apply (s : FVec Ideal S1x512 .f32) (z : Ideal .f32) (k w o a : Vec Ideal S1x512 .f32) (b : Vec Ideal S1x1 .f32) :
    k0_pay3 s z k w o a b (ix2 (0 : Fin 1) (0 : Fin 1))
      = Score.logistic (∑ j : Fin 512, (a (ix2 (0 : Fin 1) j) + k0_pay1 s z k w o (ix2 (0 : Fin 1) j) : EReal) + b (ix2 (0 : Fin 1) (0 : Fin 1))) := by
  unfold k0_pay3 Score.logistic
  generalize k0_pay1 s z k w o = p
  pointwise
  rw [zero_sub, Fin.sum_univ_one]

end Cert.KernelIdeal.Block

end
-- ==== Proof.KernelArray.lean ====
/- What the kernel's result holds after its run: the windows' blocks read off the arguments, the two points put together,
   and the reshape that follows. -/
module

public import proofs.«01_k».proof.Proof.KernelBlock
public import Idealize.ShloMosaic.Lib.Claim
public import Idealize.ShloMosaic.Lib.StableHlo.ReadAt

@[expose] public section

set_option maxRecDepth 16384

noncomputable section

namespace Cert.KernelIdeal.Block

open Idealize.ShloMosaic Idealize.ShloMosaic.TcCoe Cert.KernelIdeal Cert.KernelIdeal.Gen
open Idealize.ShloMosaic.Pipeline (Dat)

variable (m : (ℓ : Loc nD τ sig) → Buf (Elt Ideal) ℓ) (c : Dev nD)

/-- Device `c`'s input. -/
abbrev x : Vec Ideal S8x512 .f32 := m ((c : Thread nD τ).loc main_arg0)
/-- Device `c`'s weights. -/
abbrev w : Vec Ideal S8x128x512 .f32 := m ((c : Thread nD τ).loc main_arg1)
/-- Device `c`'s bias of the hidden layer. -/
abbrev b : Vec Ideal S8x128 .f32 := m ((c : Thread nD τ).loc main_arg2)
/-- Device `c`'s kernel table. -/
abbrev k : Vec Ideal S8192x1024 .f32 := m ((c : Thread nD τ).loc main_arg3)
/-- Device `c`'s weights of the differences. -/
abbrev wp : Vec Ideal S1024 .f32 := m ((c : Thread nD τ).loc main_arg4)
/-- Device `c`'s output weights. -/
abbrev ow : Vec Ideal S1x1024 .f32 := m ((c : Thread nD τ).loc main_arg5)
/-- Device `c`'s output bias. -/
abbrev ob : Vec Ideal S1 .f32 := m ((c : Thread nD τ).loc main_arg6)

/-! ## The arrays the windows are cut from -/

/-- The weights as one matrix, a row per component and unit. -/
theorem V_weights (r : Fin 1024) (t : Fin 512) :
    V m c main_v0 (ix2 r t) = w m c (ix3 ⟨r.val / 128, by omega⟩ ⟨r.val % 128, by omega⟩ t) := by
  unfold V V0
  after_reads_at

/-- The weights of the differences as one row. -/
theorem V_weightp (j : Fin 1024) : V m c main_v1 (ix2 (0 : Fin 1) j) = wp m c (ix1 j) := by
  unfold V V0
  after_reads_at

/-- The output bias as one entry. -/
theorem V_bias : V m c main_v2 (ix2 (0 : Fin 1) (0 : Fin 1)) = ob m c (ix1 (0 : Fin 1)) := by
  unfold V V0
  after_reads_at

/-! ## Where the blocks lie -/

/-- The input's block is the same at every point. -/
theorem at0 : ∀ t : Fin grid0.N, win0_0.index t 0 = 0 ∧ win0_0.index t 1 = 0 := by decide +kernel
/-- The weights' block moves down with the point. -/
theorem at1 : ∀ t : Fin grid0.N, win0_1.index t 0 = t.val ∧ win0_1.index t 1 = 0 := by decide +kernel
/-- The bias's block is the same at every point. -/
theorem at2 : ∀ t : Fin grid0.N, win0_2.index t 0 = 0 ∧ win0_2.index t 1 = 0 := by decide +kernel
/-- The kernel table's block moves right with the point. -/
theorem at3 : ∀ t : Fin grid0.N, win0_3.index t 0 = 0 ∧ win0_3.index t 1 = t.val := by decide +kernel
/-- The difference weights' block moves right with the point. -/
theorem at4 : ∀ t : Fin grid0.N, win0_4.index t 0 = 0 ∧ win0_4.index t 1 = t.val := by decide +kernel
/-- The output weights' block moves right with the point. -/
theorem at5 : ∀ t : Fin grid0.N, win0_5.index t 0 = 0 ∧ win0_5.index t 1 = t.val := by decide +kernel
/-- The output bias's block is the same at every point. -/
theorem at6 : ∀ t : Fin grid0.N, win0_6.index t 0 = 0 ∧ win0_6.index t 1 = 0 := by decide +kernel
/-- The result's block is the same at every point. -/
theorem at7 : ∀ t : Fin grid0.N, win0_7.index t 0 = 0 ∧ win0_7.index t 1 = 0 := by decide +kernel
/-- A point's grid coordinate is its number. -/
theorem coord : ∀ t : Fin grid0.N, (grid0.coords t 0).val = t.val := by decide +kernel

/-! ## The blocks, entry by entry -/

/-- The input's block is the input. -/
theorem blk0 (t : Fin cfg0.N) (r : Fin 8) (u : Fin 512) :
    (iblk m c 0 t : Vec Ideal S8x512 .f32) (ix2 r u) = x m c (ix2 r u) := by
  unfold iblk
  rw [View.read_apply]
  refine (congrArg (V m c main_arg0) (funext fun a => Fin.ext ?_)).trans (congrFun (V_main_arg0 m c) (ix2 r u))
  match a with
  | ⟨0, _⟩ => show win0_0.index t 0 * 8 + 1 * r.val = r.val; rw [(at0 t).1]; omega
  | ⟨1, _⟩ => show win0_0.index t 1 * 512 + 1 * u.val = u.val; rw [(at0 t).2]; omega

/-- Row `j` of the weights' block at point `t` is row `512 t + j` of the weights. -/
theorem blk1 (t : Fin cfg0.N) (j u : Fin 512) (q : Fin 1024) (hq : q.val = 512 * t.val + j.val) :
    (iblk m c 1 t : Vec Ideal S512x512 .f32) (ix2 j u) = w m c (ix3 ⟨q.val / 128, by omega⟩ ⟨q.val % 128, by omega⟩ u) := by
  unfold iblk
  rw [View.read_apply]
  refine (congrArg (V m c main_v0) (funext fun a => Fin.ext ?_)).trans (V_weights m c q u)
  match a with
  | ⟨0, _⟩ => show win0_1.index t 0 * 512 + 1 * j.val = q.val; rw [(at1 t).1]; omega
  | ⟨1, _⟩ => show win0_1.index t 1 * 512 + 1 * u.val = u.val; rw [(at1 t).2]; omega

/-- The bias's block is the bias. -/
theorem blk2 (t : Fin cfg0.N) (r : Fin 8) (h : Fin 128) :
    (iblk m c 2 t : Vec Ideal S8x128 .f32) (ix2 r h) = b m c (ix2 r h) := by
  unfold iblk
  rw [View.read_apply]
  refine (congrArg (V m c main_arg2) (funext fun a => Fin.ext ?_)).trans (congrFun (V_main_arg2 m c) (ix2 r h))
  match a with
  | ⟨0, _⟩ => show win0_2.index t 0 * 8 + 1 * r.val = r.val; rw [(at2 t).1]; omega
  | ⟨1, _⟩ => show win0_2.index t 1 * 128 + 1 * h.val = h.val; rw [(at2 t).2]; omega

/-- The kernel table's block at point `t` is its first eight rows at columns `512 t + j`. -/
theorem blk3 (t : Fin cfg0.N) (r : Fin 8) (j : Fin 512) (q : Fin 1024) (hq : q.val = 512 * t.val + j.val) :
    (iblk m c 3 t : Vec Ideal S8x512 .f32) (ix2 r j) = k m c (ix2 ⟨r.val, by omega⟩ q) := by
  unfold iblk
  rw [View.read_apply]
  refine (congrArg (V m c main_arg3) (funext fun a => Fin.ext ?_)).trans (congrFun (V_main_arg3 m c) (ix2 ⟨r.val, by omega⟩ q))
  match a with
  | ⟨0, _⟩ => show win0_3.index t 0 * 8 + 1 * r.val = r.val; rw [(at3 t).1]; omega
  | ⟨1, _⟩ => show win0_3.index t 1 * 512 + 1 * j.val = q.val; rw [(at3 t).2]; omega

/-- The difference weights' block at point `t` is their entries `512 t + j`. -/
theorem blk4 (t : Fin cfg0.N) (j : Fin 512) (q : Fin 1024) (hq : q.val = 512 * t.val + j.val) :
    (iblk m c 4 t : Vec Ideal S1x512 .f32) (ix2 (0 : Fin 1) j) = wp m c (ix1 q) := by
  unfold iblk
  rw [View.read_apply]
  refine (congrArg (V m c main_v1) (funext fun a => Fin.ext ?_)).trans (V_weightp m c q)
  match a with
  | ⟨0, _⟩ => show win0_4.index t 0 * 1 + 1 * 0 = 0; rw [(at4 t).1]
  | ⟨1, _⟩ => show win0_4.index t 1 * 512 + 1 * j.val = q.val; rw [(at4 t).2]; omega

/-- The output weights' block at point `t` is their entries `512 t + j`. -/
theorem blk5 (t : Fin cfg0.N) (j : Fin 512) (q : Fin 1024) (hq : q.val = 512 * t.val + j.val) :
    (iblk m c 5 t : Vec Ideal S1x512 .f32) (ix2 (0 : Fin 1) j) = ow m c (ix2 (0 : Fin 1) q) := by
  unfold iblk
  rw [View.read_apply]
  refine (congrArg (V m c main_arg5) (funext fun a => Fin.ext ?_)).trans (congrFun (V_main_arg5 m c) (ix2 (0 : Fin 1) q))
  match a with
  | ⟨0, _⟩ => show win0_5.index t 0 * 1 + 1 * 0 = 0; rw [(at5 t).1]
  | ⟨1, _⟩ => show win0_5.index t 1 * 512 + 1 * j.val = q.val; rw [(at5 t).2]; omega

/-- The output bias's block is the output bias. -/
theorem blk6 (t : Fin cfg0.N) :
    (iblk m c 6 t : Vec Ideal S1x1 .f32) (ix2 (0 : Fin 1) (0 : Fin 1)) = ob m c (ix1 (0 : Fin 1)) := by
  unfold iblk
  rw [View.read_apply]
  refine (congrArg (V m c main_v2) (funext fun a => Fin.ext ?_)).trans (V_bias m c)
  match a with
  | ⟨0, _⟩ => show win0_6.index t 0 * 1 + 1 * 0 = 0; rw [(at6 t).1]
  | ⟨1, _⟩ => show win0_6.index t 1 * 1 + 1 * 0 = 0; rw [(at6 t).2]

/-! ## The two points -/

/-- The place in the flattened hidden layer of column `j` at point `t`. -/
def place (t : Fin cfg0.N) (j : Fin 512) : Fin 1024 :=
  ⟨512 * t.val + j.val, by have h : t.val < 2 := lt_of_lt_of_eq t.isLt N_0; omega⟩

/-- The partial product a point computes at column `j` is what the column's place adds to the output product. -/
theorem partial_eq (t : Fin cfg0.N) (j : Fin 512) :
    k0_pay1 (k0_pay4 (grid0.coords t) (iblk m c 0 t) (iblk m c 1 t) (iblk m c 2 t)) (Scalar.ofBits .f32 0x00000000#32)
        (row0 (iblk m c 3 t)) (iblk m c 4 t) (iblk m c 5 t) (ix2 (0 : Fin 1) j)
      = Score.contrib (x m c) (w m c) (b m c) (k m c) (wp m c) (ow m c) (place t j) := by
  have ht : t.val < 2 := lt_of_lt_of_eq t.isLt N_0
  have hp : (place t j).val = 512 * t.val + j.val := rfl
  have hz : (Scalar.ofBits .f32 0x00000000#32 : Ideal .f32) = (0 : EReal) := Ideal.ofBits_zero_f32
  rw [pay1_apply, pay4_apply _ _ _ _ j ⟨(place t j).val / 128, by omega⟩ (by rw [coord t]; dsimp only; omega),
    blk4 m c t j (place t j) hp, blk5 m c t j (place t j) hp, hz]
  have e3 : (row0 (iblk m c 3 t) : Vec Ideal S1x512 .f32) (ix2 (0 : Fin 1) j) = k m c (ix2 (0 : Fin 8192) (place t j)) := by
    refine Eq.trans ?_ (blk3 m c t (0 : Fin 8) j (place t j) hp)
    pointwise [row0]
  rw [e3, blk2]
  unfold Score.contrib Score.hid
  have e1 : ∀ u : Fin 512, (iblk m c 1 t : Vec Ideal S512x512 .f32) (ix2 j u)
      = w m c (ix3 ⟨(place t j).val / 128, by omega⟩ ⟨(place t j).val % 128, by omega⟩ u) := fun u => blk1 m c t j u (place t j) hp
  have e0 : ∀ (r : Fin 8) (u : Fin 512), (iblk m c 0 t : Vec Ideal S8x512 .f32) (ix2 r u) = x m c (ix2 r u) := blk0 m c t
  have em : (⟨j.val % 128, by omega⟩ : Fin 128) = ⟨(place t j).val % 128, by omega⟩ := Fin.ext (by dsimp only; omega)
  rw [em]
  simp only [e0, e1]

/-- The first point leaves the first half's partial products in the scratch row. -/
theorem scratch_apply (h : 0 < cfg0.N) (j : Fin 512) :
    ((outsAt0 m c 0 h).2 : Vec Ideal S1x512 .f32) (ix2 (0 : Fin 1) j)
      = Score.contrib (x m c) (w m c) (b m c) (k m c) (wp m c) (ow m c) (place ⟨0, h⟩ j) := by
  have e := outsAt0_A m c ⟨0, h⟩ rfl (by show ¬0 % 2 = 1; decide)
  rw [show outsAt0 m c 0 h = outsAt0 m c (⟨0, h⟩ : Fin cfg0.N).val (⟨0, h⟩ : Fin cfg0.N).isLt from rfl, e]
  dsimp only
  rw [sout_A]
  exact partial_eq m c ⟨0, h⟩ j

/-- The second point leaves the score in the output block. -/
theorem output_apply (h : 1 < cfg0.N) :
    ((outsAt0 m c 1 h).1 : Vec Ideal S1x1 .f32) (ix2 (0 : Fin 1) (0 : Fin 1))
      = Score.score (x m c) (w m c) (b m c) (k m c) (wp m c) (ow m c) (ob m c) := by
  have e := outsAt0_B m c ⟨1, h⟩ (by show ¬1 % 2 = 0; decide) rfl
  rw [show outsAt0 m c 1 h = outsAt0 m c (⟨1, h⟩ : Fin cfg0.N).val (⟨1, h⟩ : Fin cfg0.N).isLt from rfl, e]
  dsimp only
  rw [out_B, pay3_apply, blk6]
  unfold Score.score
  refine congrArg Score.logistic (congrArg (fun s => s + ob m c (ix1 (0 : Fin 1))) (Eq.trans (Finset.sum_congr rfl fun j _ => ?_)
    (Score.sum_halves (Score.contrib (x m c) (w m c) (b m c) (k m c) (wp m c) (ow m c)))))
  rw [partial_eq m c ⟨1, h⟩ j]
  refine congrArg₂ (fun p q : EReal => p + q) ((scratch_apply m c (by omega) j).trans ?_) ?_
  · exact congrArg _ (Fin.ext (by show 512 * 0 + j.val = j.val; omega))
  · exact congrArg _ (Fin.ext (by show 512 * 1 + j.val = 512 + j.val; omega))

/-! ## The result -/

/-- The last point. -/
def last : Fin cfg0.N := ⟨1, by rw [show cfg0.N = 2 from N_0]; decide⟩

/-- The result array of the pipeline: its one entry is the score. -/
theorem array_eq : (dats m 0 c).arrAt 7 cfg0.N
    = (fun _ => Score.score (x m c) (w m c) (b m c) (k m c) (wp m c) (ow m c) (ob m c) : Vec Ideal S1x1 .f32) := by
  have hN : cfg0.N = 2 := N_0
  refine (dats m 0 c).arrAt_eq_of_cover 7 _ (fun t hf => ?_) fun i => ⟨last, (flush0_7 _).mpr rfl, ?_⟩
  · have h1 : t.val = 1 := by have := (flush0_7 t).mp hf; have := t.isLt; omega
    obtain ⟨n, hn⟩ := t
    obtain rfl : n = 1 := h1
    funext y
    rw [View.read_apply]
    show ((dats m 0 c).after 7 ⟨1, hn⟩ : Vec Ideal S1x1 .f32) _ = _
    rw [after0_7]
    refine Eq.trans (congrArg _ ?_) (output_apply m c hn)
    funext a
    match a with
    | ⟨0, _⟩ => exact Subsingleton.elim (α := Fin 1) _ _
    | ⟨1, _⟩ => exact Subsingleton.elim (α := Fin 1) _ _
  · show i ∈ ((View.whole main_v3).slice (win0_7.rect last)).set
    rw [View.set_slice_whole, Rect.mem_set_unit]
    have i0 : (i 0 : Nat) < 1 := (i 0).isLt
    have i1 : (i 1 : Nat) < 1 := (i 1).isLt
    intro a
    match a with
    | ⟨0, _⟩ =>
      show win0_7.index last 0 * 1 ≤ (i 0 : Nat) ∧ (i 0 : Nat) < win0_7.index last 0 * 1 + 1
      rw [(at7 _).1]; omega
    | ⟨1, _⟩ =>
      show win0_7.index last 1 * 1 ≤ (i 1 : Nat) ∧ (i 1 : Nat) < win0_7.index last 1 * 1 + 1
      rw [(at7 _).2]; omega

/-- After the run and the reshape that follows, the kernel's result is the score. -/
theorem result_eq : Pipeline.afterTail₀ cfgs (dats m) 0 (V0 m) [hostOps1] c main_v4
    = (fun _ => Score.score (x m c) (w m c) (b m c) (k m c) (wp m c) (ow m c) (ob m c) : Vec Ideal S1 .f32) := by
  unfold Pipeline.afterTail₀
  after_reads_simp
  have e := Pipeline.withArrays_arr (cfgs 0).spec (by decide) c (V0 m c)
    (fun v => (dats m 0 c).arrAt v (cfgs 0).N) 7
  funext j
  refine (congrArg (fun a : Vec Ideal S1x1 .f32 => shapeCast S1 a shapeCasts_S1x1_S1 j) (e.trans (array_eq m c))).trans ?_
  rfl

end Cert.KernelIdeal.Block

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.RefValue
public import proofs.«01_k».proof.Proof.KernelArray
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- Every run of the reference ends with its arguments unchanged and, since it has no semaphores, with no counter above
    zero. -/
theorem frame_ref : Cert.quiescent_ReferenceIdeal := by
  intro m g _
  hlo_run
  · exact fun _ => ⟨trivial, trivial, trivial, trivial, trivial, trivial, trivial⟩
  · exact sem_eq_zero_of_no_sems (sig := Cert.ReferenceIdeal.sig) (by decide) _

/-- Every run of the kernel ends with the score of its arguments in its result. -/
theorem kernel_result (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ fun r => ∀ c : Dev Cert.KernelIdeal.nD,
        r.2.mem ((c.tc : Thread Cert.KernelIdeal.nD Cert.KernelIdeal.τ).loc Cert.KernelIdeal.main_v4)
          = (fun _ => Score.score (KernelIdeal.Block.x m c) (KernelIdeal.Block.w m c) (KernelIdeal.Block.b m c)
              (KernelIdeal.Block.k m c) (KernelIdeal.Block.wp m c) (KernelIdeal.Block.ow m c) (KernelIdeal.Block.ob m c) :
              Vec Ideal KernelIdeal.S1 .f32) := by
  run_from Cert.KernelIdeal.Gen.run_main m g
  exact KernelIdeal.Block.result_eq m c

/-- From equal arguments the kernel and the reference both end with the score of those arguments in their result, and
    with the arguments unchanged. -/
theorem algebraic : Cert.algebraic_KernelIdeal_ReferenceIdeal := by
  intro m g m' g' _ hagree
  refine ⟨fun c => (fun _ => Score.score (KernelIdeal.Block.x m c) (KernelIdeal.Block.w m c) (KernelIdeal.Block.b m c)
      (KernelIdeal.Block.k m c) (KernelIdeal.Block.wp m c) (KernelIdeal.Block.ow m c) (KernelIdeal.Block.ob m c) :
      Vec Ideal KernelIdeal.S1 .f32), ?_, ?_⟩
  · exact θ_run_mono (θ_run_and (kernel_result m g) (Cert.KernelIdeal.Gen.unchanged m g)) fun r h c => ⟨h.1 c, h.2 c⟩
  · refine θ_run_mono (θ_run_and (Cert.ReferenceIdeal.Val.run m' g') (frame_ref m' g' trivial)) fun r h c => ⟨?_, h.2.1 c⟩
    obtain ⟨h0, h1, h2, h3, h4, h5, h6⟩ := hagree c
    refine (h.1 c).trans ?_
    rw [h0, h1, h2, h3, h4, h5, h6]
    exact Cert.ReferenceIdeal.Val.G_eq _ _ _ _ _ _ _

/-- The five claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_ref, trivial, algebraic⟩

end Cert.Proof

end
